-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8192x512 : Shape := ⟨3, ![8, 8192, 512]⟩
abbrev S64x512 : Shape := ⟨2, ![64, 512]⟩
abbrev S512x512 : Shape := ⟨2, ![512, 512]⟩
abbrev S512 : Shape := ⟨1, ![512]⟩
abbrev S1 : Shape := ⟨1, ![1]⟩
abbrev S65536x512 : Shape := ⟨2, ![65536, 512]⟩
abbrev S1x512 : Shape := ⟨2, ![1, 512]⟩
abbrev S1x1 : Shape := ⟨2, ![1, 1]⟩
abbrev S512x64 : Shape := ⟨2, ![512, 64]⟩
abbrev S512x1 : Shape := ⟨2, ![512, 1]⟩

abbrev nBuf : Space → Nat
  | .hbm => 28
  | .vmem => 15
  | .smem => 1
  | _ => 0

abbrev bufTy : (tb : Table) → Fin (tcTables nBuf tb) → BufTy
  | .hbm, ⟨0, _⟩ => ⟨S8x8192x512, .f32⟩
  | .hbm, ⟨1, _⟩ => ⟨S64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1, .f32⟩
  | .hbm, ⟨9, _⟩ => ⟨S512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S65536x512, .f32⟩
  | .hbm, ⟨14, _⟩ => ⟨S64x512, .bf16⟩
  | .hbm, ⟨15, _⟩ => ⟨S512x512, .bf16⟩
  | .hbm, ⟨16, _⟩ => ⟨S1x512, .f32⟩
  | .hbm, ⟨17, _⟩ => ⟨S512x512, .bf16⟩
  | .hbm, ⟨18, _⟩ => ⟨S1x512, .f32⟩
  | .hbm, ⟨19, _⟩ => ⟨S512x512, .bf16⟩
  | .hbm, ⟨20, _⟩ => ⟨S1x512, .f32⟩
  | .hbm, ⟨21, _⟩ => ⟨S1x1, .f32⟩
  | .hbm, ⟨22, _⟩ => ⟨S1x512, .f32⟩
  | .hbm, ⟨23, _⟩ => ⟨S1x512, .f32⟩
  | .hbm, ⟨24, _⟩ => ⟨S512x512, .bf16⟩
  | .hbm, ⟨25, _⟩ => ⟨S1x512, .f32⟩
  | .hbm, ⟨26, _⟩ => ⟨S65536x512, .f32⟩
  | .hbm, ⟨27, _⟩ => ⟨S8x8192x512, .f32⟩
  | .local _ .vmem, ⟨0, _⟩ => ⟨S512x512, .f32⟩
  | .local _ .vmem, ⟨1, _⟩ => ⟨S512x512, .f32⟩
  | .local _ .vmem, ⟨2, _⟩ => ⟨S64x512, .bf16⟩
  | .local _ .vmem, ⟨3, _⟩ => ⟨S512x512, .bf16⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S512x512, .bf16⟩
  | .local _ .vmem, ⟨12, _⟩ => ⟨S1x512, .f32⟩
  | .local _ .vmem, ⟨13, _⟩ => ⟨S512x512, .f32⟩
  | .local _ .vmem, ⟨14, _⟩ => ⟨S512x512, .f32⟩
  | .local _ .smem, ⟨0, _⟩ => ⟨S1x1, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg13_1 : Ref sig .tc := ⟨.vmem, 14, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S8x8192x512 : Shape := ⟨3, ![8, 8192, 512]⟩
abbrev S64x512 : Shape := ⟨2, ![64, 512]⟩
abbrev S512x512 : Shape := ⟨2, ![512, 512]⟩
abbrev S512 : Shape := ⟨1, ![512]⟩
abbrev S1 : Shape := ⟨1, ![1]⟩
abbrev S1x1x512 : Shape := ⟨3, ![1, 1, 512]⟩
abbrev S8x128x64x512 : Shape := ⟨4, ![8, 128, 64, 512]⟩
abbrev S8x128x64x64 : Shape := ⟨4, ![8, 128, 64, 64]⟩
abbrev S1x1x1x1 : Shape := ⟨4, ![1, 1, 1, 1]⟩
abbrev S_ : Shape := ⟨0, ![]⟩
abbrev S8x128x64 : Shape := ⟨3, ![8, 128, 64]⟩
abbrev S8x128x64x1 : Shape := ⟨4, ![8, 128, 64, 1]⟩
abbrev S64x64 : Shape := ⟨2, ![64, 64]⟩
abbrev S1x1x64x64 : Shape := ⟨4, ![1, 1, 64, 64]⟩
abbrev S8x8192 : Shape := ⟨2, ![8, 8192]⟩
abbrev S8x8192x1 : Shape := ⟨3, ![8, 8192, 1]⟩

abbrev nBuf : Space → Nat
  | .hbm => 130
  | .vmem => 0
  | .smem => 0
  | _ => 0

abbrev hbmTy0_0 (i : Nat) : BufTy := match i % 128 with
  | 0 => ⟨S8x8192x512, .f32⟩
  | 1 => ⟨S64x512, .f32⟩
  | 2 => ⟨S512x512, .f32⟩
  | 3 => ⟨S512, .f32⟩
  | 4 => ⟨S512x512, .f32⟩
  | 5 => ⟨S512, .f32⟩
  | 6 => ⟨S512x512, .f32⟩
  | 7 => ⟨S512, .f32⟩
  | 8 => ⟨S1, .f32⟩
  | 9 => ⟨S512, .f32⟩
  | 10 => ⟨S512, .f32⟩
  | 11 => ⟨S512x512, .f32⟩
  | 12 => ⟨S512, .f32⟩
  | 13 => ⟨S8x8192x512, .f32⟩
  | 14 => ⟨S1x1x512, .f32⟩
  | 15 => ⟨S8x8192x512, .f32⟩
  | 16 => ⟨S8x8192x512, .f32⟩
  | 17 => ⟨S8x128x64x512, .f32⟩
  | 18 => ⟨S8x8192x512, .f32⟩
  | 19 => ⟨S1x1x512, .f32⟩
  | 20 => ⟨S8x8192x512, .f32⟩
  | 21 => ⟨S8x8192x512, .f32⟩
  | 22 => ⟨S8x128x64x512, .f32⟩
  | 23 => ⟨S8x8192x512, .f32⟩
  | 24 => ⟨S1x1x512, .f32⟩
  | 25 => ⟨S8x8192x512, .f32⟩
  | 26 => ⟨S8x8192x512, .f32⟩
  | 27 => ⟨S8x128x64x512, .f32⟩
  | 28 => ⟨S8x128x64x64, .f32⟩
  | 29 => ⟨S1x1x1x1, .f32⟩
  | 30 => ⟨S8x128x64x64, .f32⟩
  | 31 => ⟨S8x128x64x64, .f32⟩
  | 32 => ⟨S_, .f32⟩
  | 33 => ⟨S8x128x64, .f32⟩
  | 34 => ⟨S_, .f32⟩
  | 35 => ⟨S8x128x64, .f32⟩
  | 36 => ⟨S8x128x64, .f32⟩
  | 37 => ⟨S8x128x64x1, .f32⟩
  | 38 => ⟨S8x128x64x64, .f32⟩
  | 39 => ⟨S8x128x64x64, .f32⟩
  | 40 => ⟨S8x128x64x64, .f32⟩
  | 41 => ⟨S_, .f32⟩
  | 42 => ⟨S8x128x64, .f32⟩
  | 43 => ⟨S8x128x64x1, .f32⟩
  | 44 => ⟨S8x128x64x64, .f32⟩
  | 45 => ⟨S8x128x64x64, .f32⟩
  | 46 => ⟨S8x128x64x64, .f32⟩
  | 47 => ⟨S1x1x1x1, .f32⟩
  | 48 => ⟨S8x128x64x64, .f32⟩
  | 49 => ⟨S8x128x64x64, .f32⟩
  | 50 => ⟨S_, .f32⟩
  | 51 => ⟨S8x128x64, .f32⟩
  | 52 => ⟨S_, .f32⟩
  | 53 => ⟨S8x128x64, .f32⟩
  | 54 => ⟨S8x128x64, .f32⟩
  | 55 => ⟨S8x128x64x1, .f32⟩
  | 56 => ⟨S8x128x64x64, .f32⟩
  | 57 => ⟨S8x128x64x64, .f32⟩
  | 58 => ⟨S8x128x64x64, .f32⟩
  | 59 => ⟨S_, .f32⟩
  | 60 => ⟨S8x128x64, .f32⟩
  | 61 => ⟨S8x128x64x1, .f32⟩
  | 62 => ⟨S8x128x64x64, .f32⟩
  | 63 => ⟨S8x128x64x64, .f32⟩
  | 64 => ⟨S8x128x64x64, .f32⟩
  | 65 => ⟨S_, .f32⟩
  | 66 => ⟨S64x64, .f32⟩
  | 67 => ⟨S64x64, .i32⟩
  | 68 => ⟨S_, .i32⟩
  | 69 => ⟨S64x64, .i32⟩
  | 70 => ⟨S64x64, .i32⟩
  | 71 => ⟨S64x64, .i32⟩
  | 72 => ⟨S64x64, .i1⟩
  | 73 => ⟨S_, .f32⟩
  | 74 => ⟨S64x64, .f32⟩
  | 75 => ⟨S64x64, .f32⟩
  | 76 => ⟨S1x1x64x64, .f32⟩
  | 77 => ⟨S8x128x64x64, .f32⟩
  | 78 => ⟨S8x128x64x64, .f32⟩
  | 79 => ⟨S8x128x64x512, .f32⟩
  | 80 => ⟨S8x8192x512, .f32⟩
  | 81 => ⟨S_, .f32⟩
  | 82 => ⟨S8x8192, .f32⟩
  | 83 => ⟨S8x8192x1, .f32⟩
  | 84 => ⟨S_, .f32⟩
  | 85 => ⟨S8x8192x1, .f32⟩
  | 86 => ⟨S8x8192x1, .f32⟩
  | 87 => ⟨S_, .i32⟩
  | 88 => ⟨S_, .f32⟩
  | 89 => ⟨S8x8192, .f32⟩
  | 90 => ⟨S8x8192x1, .f32⟩
  | 91 => ⟨S_, .f32⟩
  | 92 => ⟨S8x8192x1, .f32⟩
  | 93 => ⟨S8x8192x1, .f32⟩
  | 94 => ⟨S8x8192x512, .f32⟩
  | 95 => ⟨S8x8192x512, .f32⟩
  | 96 => ⟨S8x8192x512, .f32⟩
  | 97 => ⟨S_, .f32⟩
  | 98 => ⟨S_, .f32⟩
  | 99 => ⟨S_, .f32⟩
  | 100 => ⟨S_, .f32⟩
  | 101 => ⟨S8x8192, .f32⟩
  | 102 => ⟨S8x8192x1, .f32⟩
  | 103 => ⟨S8x8192x1, .f32⟩
  | 104 => ⟨S8x8192x1, .f32⟩
  | 105 => ⟨S_, .f32⟩
  | 106 => ⟨S_, .i1⟩
  | 107 => ⟨S_, .f32⟩
  | 108 => ⟨S_, .f32⟩
  | 109 => ⟨S8x8192x1, .f32⟩
  | 110 => ⟨S8x8192x1, .f32⟩
  | 111 => ⟨S8x8192x512, .f32⟩
  | 112 => ⟨S8x8192x512, .f32⟩
  | 113 => ⟨S_, .f32⟩
  | 114 => ⟨S8x8192x1, .f32⟩
  | 115 => ⟨S8x8192x1, .f32⟩
  | 116 => ⟨S8x8192x1, .f32⟩
  | 117 => ⟨S8x8192x512, .f32⟩
  | 118 => ⟨S8x8192x512, .f32⟩
  | 119 => ⟨S1x1x512, .f32⟩
  | 120 => ⟨S8x8192x512, .f32⟩
  | 121 => ⟨S8x8192x512, .f32⟩
  | 122 => ⟨S1x1x512, .f32⟩
  | 123 => ⟨S8x8192x512, .f32⟩
  | 124 => ⟨S8x8192x512, .f32⟩
  | 125 => ⟨S8x8192x512, .f32⟩
  | 126 => ⟨S1x1x512, .f32⟩
  | 127 => ⟨S8x8192x512, .f32⟩
  | _ => ⟨S8x8192x512, .f32⟩

abbrev hbmTy0_1 (i : Nat) : BufTy := match i % 128 with
  | 0 => ⟨S8x8192x512, .f32⟩
  | 1 => ⟨S8x8192x512, .f32⟩
  | _ => ⟨S8x8192x512, .f32⟩

abbrev hbmTy (i : Nat) : BufTy := match i / 128 with
  | 0 => hbmTy0_0 i
  | 1 => hbmTy0_1 i
  | _ => ⟨S8x8192x512, .f32⟩

abbrev bufTy : (tb : Table) → Fin (tcTables nBuf tb) → BufTy
  | .hbm, ⟨i, _⟩ => hbmTy i
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_call0_v0 : Ref sig .tc := ⟨.hbm, 67, rfl⟩
abbrev main_call0_c : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_cst : Ref sig .tc := ⟨.hbm, 73, rfl⟩
abbrev main_call0_v5 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_c : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_cst_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_cst_1 : Ref sig .tc := ⟨.hbm, 98, rfl⟩
abbrev main_call1_v8 : Ref sig .tc := ⟨.hbm, 99, rfl⟩
abbrev main_call1_cst_2 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_v12 : Ref sig .tc := ⟨.hbm, 104, rfl⟩
abbrev main_call1_cst_3 : Ref sig .tc := ⟨.hbm, 105, rfl⟩
abbrev main_call1_v13 : Ref sig .tc := ⟨.hbm, 106, rfl⟩
abbrev main_call1_cst_4 : Ref sig .tc := ⟨.hbm, 107, rfl⟩
abbrev main_call1_call0_v0 : Ref sig .tc := ⟨.hbm, 108, rfl⟩
abbrev main_call1_call0_v1 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_cst_8 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩

abbrev nD : Nat := 1
abbrev τ : Topo := Topo.v7x

variable {F : FTy → Type} [FloatOps F]
-- ==== Proof.Spec.lean ====
/-
  What a slot-memory layer computes, in extended-real arithmetic, free of any program: the rows of one chunk of 64
  tokens are projected to write keys, read keys and values; write and read keys are scored against 64 slot keys and
  turned into softmax weights; a token gathers the values of the tokens of its chunk up to itself, each weighed by the
  inner product of its read weights with the other's write weights; what it gathered is normalized, scaled, shifted,
  projected and added to the token's own row.

  Both programs are shown, in the modules that import this one, to compute `outRow`.
-/
module

public import Idealize.ShloMosaic.Lib.Pointwise

@[expose] public section

noncomputable section

open Idealize.ShloMosaic

namespace Cert.Slots

/-- The layer's weights, read as functions of coordinates. -/
structure Weights where
  /-- the slot keys -/
  keys : Fin 64 → Fin 512 → EReal
  /-- write-key projection -/
  Wk : Fin 512 → Fin 512 → EReal
  bk : Fin 512 → EReal
  /-- read-key projection -/
  Wq : Fin 512 → Fin 512 → EReal
  bq : Fin 512 → EReal
  /-- value projection -/
  Wv : Fin 512 → Fin 512 → EReal
  bv : Fin 512 → EReal
  /-- the factor on the slot scores -/
  scale : EReal
  /-- gain and shift after normalization -/
  gain : Fin 512 → EReal
  shift : Fin 512 → EReal
  /-- output projection -/
  Wo : Fin 512 → Fin 512 → EReal
  bo : Fin 512 → EReal

/-- One row through a linear layer: `x W + b` at column `j`. -/
def proj (W : Fin 512 → Fin 512 → EReal) (b x : Fin 512 → EReal) (j : Fin 512) : EReal :=
  ∑ k, x k * W k j + b j

/-- The scaled score of a key row against slot `s`. -/
def logit (keys : Fin 64 → Fin 512 → EReal) (scale : EReal) (q : Fin 512 → EReal) (s : Fin 64) : EReal :=
  (∑ d, q d * keys s d) * scale

/-- The largest of 64 scores. -/
def top (l : Fin 64 → EReal) : EReal := Finset.univ.fold max ⊥ l

/-- The numerator of the softmax: the exponential of a score less the largest. -/
def expo (l : Fin 64 → EReal) (s : Fin 64) : EReal := Ideal.exp (l s - top l)

/-- Softmax over the 64 slots. -/
def soft (l : Fin 64 → EReal) (s : Fin 64) : EReal := Ideal.div (expo l s) (∑ s', expo l s')

/-- A row's weights over the slots as a writer, and as a reader. -/
def writes (p : Weights) (x : Fin 512 → EReal) : Fin 64 → EReal := soft (logit p.keys p.scale (proj p.Wk p.bk x))
def reads (p : Weights) (x : Fin 512 → EReal) : Fin 64 → EReal := soft (logit p.keys p.scale (proj p.Wq p.bq x))

/-- How much of row `y`'s value row `x` reads, before the order of tokens is looked at. -/
def score (p : Weights) (x y : Fin 512 → EReal) : EReal := ∑ s, reads p x s * writes p y s

/-- What token `t` of a chunk gathers: the values of the tokens up to `t`, by score. -/
def gather (p : Weights) (X : Fin 64 → Fin 512 → EReal) (t : Fin 64) (d : Fin 512) : EReal :=
  ∑ u, (score p (X t) (X u) * if u ≤ t then 1 else 0) * proj p.Wv p.bv (X u) d

/-- The mean of a row (the divisor is the word of 512). -/
def mean (r : Fin 512 → EReal) : EReal := Ideal.div (∑ j, r j) (Ideal.ofBits .f32 0x44000000#32)

/-- A row less its mean, over the root of its variance plus a small constant. -/
def normed (r : Fin 512 → EReal) (d : Fin 512) : EReal :=
  (r d - mean r) * Ideal.rsqrt (mean (fun j => (r j - mean r) * (r j - mean r)) + Ideal.ofBits .f32 0x3727C5AC#32)

/-- The row added to a token's own: the normalized row scaled, shifted and projected. -/
def update (p : Weights) (r : Fin 512 → EReal) (j : Fin 512) : EReal :=
  proj p.Wo p.bo (fun d => normed r d * p.gain d + p.shift d) j

/-- The layer's output at token `t` of the chunk whose rows are `X`. -/
def outRow (p : Weights) (X : Fin 64 → Fin 512 → EReal) (t : Fin 64) (j : Fin 512) : EReal :=
  X t j + update p (gather p X t) j

/-- Token `u` of the chunk that token `s` is in, and the place of `s` in it. -/
def tok (s : Fin 8192) (u : Fin 64) : Fin 8192 := ⟨64 * (s / 64) + u, by omega⟩
def pos (s : Fin 8192) : Fin 64 := ⟨s % 64, by omega⟩

/-- The weights, from the twelve argument arrays in the order both programs take them. -/
def ofArgs (K : (⟨2, ![64, 512]⟩ : Shape).Idx → EReal) (Wk : (⟨2, ![512, 512]⟩ : Shape).Idx → EReal)
    (bk : (⟨1, ![512]⟩ : Shape).Idx → EReal) (Wq : (⟨2, ![512, 512]⟩ : Shape).Idx → EReal)
    (bq : (⟨1, ![512]⟩ : Shape).Idx → EReal) (Wv : (⟨2, ![512, 512]⟩ : Shape).Idx → EReal)
    (bv : (⟨1, ![512]⟩ : Shape).Idx → EReal) (sc : (⟨1, ![1]⟩ : Shape).Idx → EReal)
    (g s : (⟨1, ![512]⟩ : Shape).Idx → EReal) (Wo : (⟨2, ![512, 512]⟩ : Shape).Idx → EReal)
    (bo : (⟨1, ![512]⟩ : Shape).Idx → EReal) : Weights where
  keys := fun a d => K (ix2 a d)
  Wk := fun k j => Wk (ix2 k j)
  bk := fun j => bk (ix1 j)
  Wq := fun k j => Wq (ix2 k j)
  bq := fun j => bq (ix1 j)
  Wv := fun k j => Wv (ix2 k j)
  bv := fun j => bv (ix1 j)
  scale := sc (ix1 (0 : Fin 1))
  gain := fun j => g (ix1 j)
  shift := fun j => s (ix1 j)
  Wo := fun k j => Wo (ix2 k j)
  bo := fun j => bo (ix1 j)

/-- The layer over a batch of 8 sequences of 8192 tokens: each token's row, from the rows of its chunk. -/
def layer (p : Weights) (x : (⟨3, ![8, 8192, 512]⟩ : Shape).Idx → EReal) : (⟨3, ![8, 8192, 512]⟩ : Shape).Idx → EReal :=
  fun i => outRow p (fun u k => x (ix3 (i 0) (tok (i 1) u) k)) (pos (i 1)) (i 2)

/-- The word a maximum starts from denotes −∞. -/
theorem bits_bot : Ideal.ofBits .f32 0xFF800000#32 = ⊥ := by
  simp [Ideal.ofBits, Ideal.ieee]

/-- The word of 512. -/
theorem bits_width : Ideal.ofBits .f32 0x44000000#32 = ((512 : ℝ) : EReal) := by
  simp [Ideal.ofBits, Ideal.ieee, -EReal.coe_mul]; norm_num

/-- Row `u` of chunk `c` among the 512 rows of a block of 8 chunks. -/
def rowOf (c : Fin 8) (u : Fin 64) : Fin 512 := ⟨64 * c + u, by omega⟩

/-- The rows of a block are its 8 chunks of 64 rows. -/
theorem sum_rows (f : Fin 512 → EReal) : ∑ r, f r = ∑ c : Fin 8, ∑ u : Fin 64, f (rowOf c u) := by
  rw [← Fintype.sum_prod_type' (f := fun c u => f (rowOf c u))]
  refine (Fintype.sum_equiv (finProdFinEquiv (m := 8) (n := 64)) _ _ fun cu => ?_).symm
  refine congrArg f (Fin.ext ?_)
  simp [rowOf, finProdFinEquiv, Nat.add_comm]

/-- A sum over all rows of a block of terms kept only in the chunk of row `64 c + t`, at that row and before, is the sum
    over the chunk of the terms times a factor 1 or 0: dropping a term and multiplying it by 0 are one thing. -/
theorem sum_kept (a v : Fin 512 → EReal) (c : Fin 8) (t : Fin 64) :
    ∑ r : Fin 512, (if (rowOf c t).val / 64 = r.val / 64 ∧ r.val ≤ (rowOf c t).val then a r else 0) * v r
      = ∑ u : Fin 64, (a (rowOf c u) * if u ≤ t then 1 else 0) * v (rowOf c u) := by
  rw [sum_rows, Finset.sum_eq_single c]
  · refine Finset.sum_congr rfl fun u _ => ?_
    have e : ((rowOf c t).val / 64 = (rowOf c u).val / 64 ∧ (rowOf c u).val ≤ (rowOf c t).val) ↔ u ≤ t := by
      simp only [rowOf, Fin.le_def]; omega
    simp only [e]
    by_cases h : u ≤ t <;> simp [h]
  · intro c' _ hc
    refine Finset.sum_eq_zero fun u _ => ?_
    rw [if_neg, zero_mul]
    simp only [rowOf]
    intro h
    exact hc (Fin.ext (by omega))
  · intro h; exact absurd (Finset.mem_univ c) h

end Cert.Slots

end
-- ==== Proof.KernelBlock.lean ====
/-
  One block of the kernel, read at an index. The body's stored value is a tower of vector operations over the 512 rows
  it loads and the weights; over the extended reals its changes of format are identities, and at row `64 c + t`, column
  `j` it is `outRow` of chunk `c` of the block. The block-diagonal causal mask is decided on the row and column numbers.
-/
module

public import proofs.«01_k».proof.Proof.Gen.KernelIdeal.Skeleton
public import proofs.«01_k».proof.Proof.Spec
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.KernelIdeal.Block

open Cert.KernelIdeal Cert.KernelIdeal.Gen Cert.Slots

/-- Row `r` of an array of 512 columns, an array as a function of its coordinates, and a one-row array as a function. -/
abbrev row {n : Nat} (x : (⟨2, ![n, 512]⟩ : Shape).Idx → EReal) (r : Fin n) : Fin 512 → EReal := fun k => x (ix2 r k)
abbrev mat {n : Nat} (x : (⟨2, ![n, 512]⟩ : Shape).Idx → EReal) : Fin n → Fin 512 → EReal := fun r k => x (ix2 r k)
abbrev vec (x : S1x512.Idx → EReal) : Fin 512 → EReal := fun k => x (ix2 (0 : Fin 1) k)

/-- The layer's weights, from the arrays a block of the kernel is handed. -/
def weights (K : FVec Ideal S64x512 .bf16) (Wk : FVec Ideal S512x512 .bf16) (bk : FVec Ideal S1x512 .f32)
    (Wq : FVec Ideal S512x512 .bf16) (bq : FVec Ideal S1x512 .f32) (Wv : FVec Ideal S512x512 .bf16)
    (bv : FVec Ideal S1x512 .f32) (sc : FVec Ideal S1x1 .f32) (g s : FVec Ideal S1x512 .f32)
    (Wo : FVec Ideal S512x512 .bf16) (bo : FVec Ideal S1x512 .f32) : Weights where
  keys := mat K
  Wk := mat Wk
  bk := vec bk
  Wq := mat Wq
  bq := vec bq
  Wv := mat Wv
  bv := vec bv
  scale := sc (ix2 (0 : Fin 1) (0 : Fin 1))
  gain := vec g
  shift := vec s
  Wo := mat Wo
  bo := vec bo

/-- A one-row array made of a vector has the vector's elements. -/
theorem vec_cast (b : FVec Ideal S512 .f32) : vec (shapeCast S1x512 b shapeCasts_S512_S1x512) = fun j => b (ix1 j) := by
  funext j; pointwise []

/-- Of arguments in the shapes the region takes them in, they are the weights of the arguments. -/
theorem weights_ofArgs (K : FVec Ideal S64x512 .f32) (Wk Wq Wv Wo : FVec Ideal S512x512 .f32)
    (bk bq bv g s bo : FVec Ideal S512 .f32) (sc : FVec Ideal S1 .f32) :
    weights K Wk (shapeCast S1x512 bk shapeCasts_S512_S1x512) Wq (shapeCast S1x512 bq shapeCasts_S512_S1x512)
        Wv (shapeCast S1x512 bv shapeCasts_S512_S1x512) (shapeCast S1x1 sc shapeCasts_S1_S1x1)
        (shapeCast S1x512 g shapeCasts_S512_S1x512) (shapeCast S1x512 s shapeCasts_S512_S1x512) Wo
        (shapeCast S1x512 bo shapeCasts_S512_S1x512)
      = ofArgs K Wk bk Wq bq Wv bv sc g s Wo bo := by
  have e : shapeCast S1x1 sc shapeCasts_S1_S1x1 (ix2 (0 : Fin 1) (0 : Fin 1)) = sc (ix1 (0 : Fin 1)) := by
    pointwise []
  unfold weights ofArgs
  rw [vec_cast, vec_cast, vec_cast, vec_cast, vec_cast, vec_cast, e]

/-- Row `8192 b + s` of the flattened token rows is token `s` of sequence `b`. -/
theorem flat_apply (x : FVec Ideal S8x8192x512 .f32) (b : Fin 8) (s : Fin 8192) (k : Fin 512) (R : Fin 65536)
    (hR : R.val = 8192 * b.val + s.val) :
    shapeCast S65536x512 x shapeCasts_S8x8192x512_S65536x512 (ix2 R k) = x (ix3 b s k) := by
  pointwise []
  exact congrArg x (congrArg₂ (fun b s => ix3 b s k) (Fin.ext (by show R.val / 8192 = b.val; omega))
    (Fin.ext (by show R.val % 8192 = s.val; omega)))

/-- And back. -/
theorem unflat_apply (y : FVec Ideal S65536x512 .f32) (b : Fin 8) (s : Fin 8192) (k : Fin 512) (R : Fin 65536)
    (hR : R.val = 8192 * b.val + s.val) :
    shapeCast S8x8192x512 y shapeCasts_S65536x512_S8x8192x512 (ix3 b s k) = y (ix2 R k) := by
  pointwise []
  exact congrArg (fun R => y (ix2 R k)) (Fin.ext (by show b.val * 8192 + s.val = R.val; omega))

/-- The read keys of a block. -/
theorem pay4_apply (x : FVec Ideal S512x512 .f32) (W : FVec Ideal S512x512 .bf16) (b : FVec Ideal S1x512 .f32)
    (r j : Fin 512) : k0_pay4 (F := Ideal) x W b (ix2 r j) = proj (mat W) (vec b) (row x r) j := by
  pointwise [k0_pay4, k0_pay3, k0_pay2, proj]

/-- The values of a block. -/
theorem pay5_apply (x : FVec Ideal S512x512 .f32) (W : FVec Ideal S512x512 .bf16) (b : FVec Ideal S1x512 .f32)
    (r j : Fin 512) : k0_pay5 (F := Ideal) x W b (ix2 r j) = proj (mat W) (vec b) (row x r) j := by
  pointwise [k0_pay5, k0_pay3, k0_pay2, proj]

/-- The softmax numerators of the write keys of a block. -/
theorem pay7_apply (x : FVec Ideal S512x512 .f32) (W : FVec Ideal S512x512 .bf16) (b : FVec Ideal S1x512 .f32)
    (K : FVec Ideal S64x512 .bf16) (sc : EReal) (r : Fin 512) (s : Fin 64) :
    k0_pay7 (F := Ideal) x W b K sc (ix2 r s) = expo (logit (mat K) sc (proj (mat W) (vec b) (row x r))) s := by
  pointwise [k0_pay7, k0_pay6, k0_pay3, k0_pay2, proj, expo, top, logit, bits_bot]

/-- The inner products of read weights with write weights, all rows of a block against all. -/
theorem pay8_apply (q : FVec Ideal S512x512 .f32) (K : FVec Ideal S64x512 .bf16) (sc : EReal)
    (e : FVec Ideal S512x64 .f32) (r u : Fin 512) :
    k0_pay8 (F := Ideal) q K sc e (ix2 r u)
      = ∑ s, soft (logit (mat K) sc (row q r)) s * Ideal.div (e (ix2 u s)) (∑ s', e (ix2 u s')) := by
  pointwise [k0_pay8, soft, expo, top, logit, bits_bot]

/-- The quotient by 64 the body computes from a row or column number — a division rounded toward zero, less one where the
    signs differ and it is not exact — is the chunk number. -/
theorem chunk_word (u : Fin 512) :
    Scalar.select
      (IntOp.andi
        (IntOp.cmpi .ne
          (IntOp.subi (BitVec.setWidth 32 (IntOp.cmpi .sgt (BitVec.ofNat 32 u) 0#32))
            (BitVec.setWidth 32 (IntOp.cmpi .slt (BitVec.ofNat 32 u) 0#32)))
          (Scalar.subi (Scalar.extui (Scalar.cmpi .sgt 64#32 0#32)) (Scalar.extui (Scalar.cmpi .slt 64#32 0#32))))
        (IntOp.cmpi .ne (IntOp.remsi .vector (BitVec.ofNat 32 u) 64#32) 0#32))
      (IntOp.subi (IntOp.divsi .vector (BitVec.ofNat 32 u) 64#32) 1#32)
      (IntOp.divsi .vector (BitVec.ofNat 32 u) 64#32) = BitVec.ofNat 32 (u / 64) := by
  revert u; decide +kernel

/-- The chunk number of a row, in every column. -/
theorem pay9_apply (r j : Fin 512) : k0_pay9 (ix2 r j) = BitVec.ofNat 32 (r / 64) := by
  pointwise [k0_pay9, chunk_word]

/-- The mask at row `r`, column `u` — one chunk, and not after — keeps a product or puts 0: a product with the kept factor
    or with 0. -/
theorem mask_select (r u : Fin 512) (a b : EReal) :
    Scalar.select (IntOp.andi (IntOp.cmpi .eq (BitVec.ofNat 32 (r / 64)) (BitVec.ofNat 32 (u / 64)))
        (IntOp.cmpi .sle (BitVec.ofNat 32 u) (BitVec.ofNat 32 r))) (a * b) 0
      = (if r.val / 64 = u.val / 64 ∧ u.val ≤ r.val then a else 0) * b := by
  rw [WordCmp.cmpi_eq_ofNat (by omega) (by omega), WordCmp.cmpi_sle_ofNat (by omega) (by omega)]
  by_cases h1 : r.val / 64 = u.val / 64 <;> by_cases h2 : u.val ≤ r.val <;>
    simp [h1, h2, Scalar.select, IntOp.andi]

/-- A row of gathered values, normalized, from the values `v` and the inner products `a`. -/
theorem pay11_apply (v a : FVec Ideal S512x512 .f32) (r j : Fin 512) :
    k0_pay11 (F := Ideal) v a (iota .tc S512x512 32 [0] iota_S512x512_d0_w32) (iota .tc S512x512 32 [1] iota_S512x512_d1_w32)
      k0_pay9 64#32 k0_pay10 (ix2 r j)
      = normed (fun d => ∑ u : Fin 512, (if r.val / 64 = u.val / 64 ∧ u.val ≤ r.val then a (ix2 r u) else 0) * v (ix2 u d)) j := by
  pointwise [k0_pay11, k0_pay10, normed, mean, chunk_word, pay9_apply, mask_select]

/-- The stored rows, from the block's rows and the normalized ones. -/
theorem pay1_apply (x n : FVec Ideal S512x512 .f32) (g s : FVec Ideal S1x512 .f32) (W : FVec Ideal S512x512 .bf16)
    (b : FVec Ideal S1x512 .f32) (r j : Fin 512) :
    k0_pay1 (F := Ideal) x n g s W b (ix2 r j)
      = x (ix2 r j) + proj (mat W) (vec b) (fun d => n (ix2 r d) * vec g d + vec s d) j := by
  pointwise [k0_pay1, proj]

/-- The value the body stores, from the arrays it loads. -/
def stored (x : FVec Ideal S512x512 .f32) (K : FVec Ideal S64x512 .bf16) (Wk : FVec Ideal S512x512 .bf16)
    (bk : FVec Ideal S1x512 .f32) (Wq : FVec Ideal S512x512 .bf16) (bq : FVec Ideal S1x512 .f32)
    (Wv : FVec Ideal S512x512 .bf16) (bv : FVec Ideal S1x512 .f32) (sc : FVec Ideal S1x1 .f32)
    (g s : FVec Ideal S1x512 .f32) (Wo : FVec Ideal S512x512 .bf16) (bo : FVec Ideal S1x512 .f32) :
    FVec Ideal S512x512 .f32 :=
  k0_pay1 (k0_pay2 x)
    (k0_pay11 (k0_pay5 x Wv bv)
      (k0_pay8 (k0_pay4 x Wq bq) (k0_pay6 K) (sc (ix2 (0 : Fin 1) (0 : Fin 1)))
        (k0_pay7 x Wk bk K (sc (ix2 (0 : Fin 1) (0 : Fin 1)))))
      (iota .tc S512x512 32 [0] iota_S512x512_d0_w32) (iota .tc S512x512 32 [1] iota_S512x512_d1_w32)
      k0_pay9 64#32 k0_pay10)
    g s Wo bo

/-- The loaded rows are used as they are. -/
theorem pay2_eq (x : FVec Ideal S512x512 .f32) : k0_pay2 (F := Ideal) x = x := by
  funext i; idx_vars i; pointwise [k0_pay2]
theorem pay6_eq (x : FVec Ideal S64x512 .bf16) : k0_pay6 (F := Ideal) x = x := by
  funext i; idx_vars i; pointwise [k0_pay6]

/-- The stored value at row `t` of chunk `c` of the block is the layer's output for that chunk. -/
theorem stored_apply (x : FVec Ideal S512x512 .f32) (K : FVec Ideal S64x512 .bf16) (Wk : FVec Ideal S512x512 .bf16)
    (bk : FVec Ideal S1x512 .f32) (Wq : FVec Ideal S512x512 .bf16) (bq : FVec Ideal S1x512 .f32)
    (Wv : FVec Ideal S512x512 .bf16) (bv : FVec Ideal S1x512 .f32) (sc : FVec Ideal S1x1 .f32)
    (g s : FVec Ideal S1x512 .f32) (Wo : FVec Ideal S512x512 .bf16) (bo : FVec Ideal S1x512 .f32)
    (c : Fin 8) (t : Fin 64) (j : Fin 512) :
    stored x K Wk bk Wq bq Wv bv sc g s Wo bo (ix2 (rowOf c t) j)
      = outRow (weights K Wk bk Wq bq Wv bv sc g s Wo bo) (fun u => row x (rowOf c u)) t j := by
  unfold stored
  rw [pay1_apply, pay2_eq, pay6_eq]
  refine congrArg (x (ix2 (rowOf c t) j) + ·) ?_
  unfold update
  refine congrArg (fun n => proj (mat Wo) (vec bo) n j) (funext fun d => ?_)
  rw [pay11_apply]
  refine congrArg (fun n => normed n d * vec g d + vec s d) (funext fun d => ?_)
  rw [sum_kept (fun u => _) (fun u => _) c t]
  refine Finset.sum_congr rfl fun u _ => ?_
  rw [pay5_apply, pay8_apply]
  simp only [pay7_apply]
  have hq : row (n := 512) (k0_pay4 (F := Ideal) x Wq bq) (rowOf c t) = proj (mat Wq) (vec bq) (row x (rowOf c t)) :=
    funext fun j => pay4_apply x Wq bq (rowOf c t) j
  rw [hq]
  rfl

end Cert.KernelIdeal.Block

end
-- ==== Proof.KernelWindows.lean ====
/-
  What the kernel's windows hold: the block of token rows at grid point `t` is rows `512 t … 512 t + 511`, every weight's
  block is its whole array, and the arrays are the arguments in the formats and shapes the region takes them in.
-/
module

public import proofs.«01_k».proof.Proof.Gen.KernelIdeal.Frame
public import proofs.«01_k».proof.Proof.KernelBlock
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Block Cert.Slots

variable (m : (ℓ : Loc nD τ sig) → Buf (Elt Ideal) ℓ) (ρ : Dev nD → PrngReg)

/-- The layer's weights on device `c`, from the launch arguments. -/
abbrev argWeights (c : Dev nD) : Weights :=
  ofArgs (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))

/-- The index map of the rows' window over the grid: the window moves by a block of 512 rows a point. -/
theorem index0 : ∀ t : Fin grid0.N, win0_0.index t = ![t.val, 0] := by decide +kernel

/-- What the rows' window holds at a point: the point's 512 rows of the flattened argument. -/
theorem iblk0_apply (c : Dev nD) (t : Fin cfg0.N) (r k : Fin 512) (h : 512 * t.val + r.val < 65536) :
    iblk m c 0 t (ix2 r k) = V m c main_v0 (ix2 (⟨512 * t.val + r.val, h⟩ : Fin 65536) k) := by
  unfold iblk
  refine congrArg (V m c main_v0) (funext fun a => Fin.ext ?_)
  have e := index0 t
  match a with
  | ⟨0, _⟩ =>
    show win0_0.index t 0 * 512 + 1 * r.val = 512 * t.val + r.val
    rw [e]; show t.val * 512 + 1 * r.val = _; omega
  | ⟨1, _⟩ =>
    show win0_0.index t 1 * 512 + 1 * k.val = k.val
    rw [e]; show 0 * 512 + 1 * k.val = _; omega

set_option maxHeartbeats 2000000 in
/-- The weights' windows: each block is its whole array, at every point. -/
theorem iblk_whole (c : Dev nD) (t : Fin cfg0.N) :
    iblk m c 1 t = V m c main_v1 ∧ iblk m c 2 t = V m c main_v2 ∧ iblk m c 3 t = V m c main_v3
      ∧ iblk m c 4 t = V m c main_v4 ∧ iblk m c 5 t = V m c main_v5 ∧ iblk m c 6 t = V m c main_v6
      ∧ iblk m c 7 t = V m c main_v7 ∧ iblk m c 8 t = V m c main_v8 ∧ iblk m c 9 t = V m c main_v9
      ∧ iblk m c 10 t = V m c main_v10 ∧ iblk m c 11 t = V m c main_v11 ∧ iblk m c 12 t = V m c main_v12 := by
  refine ⟨funext fun i => congrArg (V m c main_v1) (funext fun a => Fin.ext ?_),
    funext fun i => congrArg (V m c main_v2) (funext fun a => Fin.ext ?_),
    funext fun i => congrArg (V m c main_v3) (funext fun a => Fin.ext ?_),
    funext fun i => congrArg (V m c main_v4) (funext fun a => Fin.ext ?_),
    funext fun i => congrArg (V m c main_v5) (funext fun a => Fin.ext ?_),
    funext fun i => congrArg (V m c main_v6) (funext fun a => Fin.ext ?_),
    funext fun i => congrArg (V m c main_v7) (funext fun a => Fin.ext ?_),
    funext fun i => congrArg (V m c main_v8) (funext fun a => Fin.ext ?_),
    funext fun i => congrArg (V m c main_v9) (funext fun a => Fin.ext ?_),
    funext fun i => congrArg (V m c main_v10) (funext fun a => Fin.ext ?_),
    funext fun i => congrArg (V m c main_v11) (funext fun a => Fin.ext ?_),
    funext fun i => congrArg (V m c main_v12) (funext fun a => Fin.ext ?_)⟩ <;>
  exact match a with
    | ⟨0, _⟩ => (Nat.zero_add _).trans (Nat.one_mul _)
    | ⟨1, _⟩ => (Nat.zero_add _).trans (Nat.one_mul _)

/-- What the operations before the region hand it: the arguments in other formats and shapes. -/
theorem V_args (c : Dev nD) :
    V m c main_v0 = shapeCast S65536x512 (m ((c : Thread nD τ).loc main_arg0)) shapeCasts_S8x8192x512_S65536x512
      ∧ V m c main_v1 = m ((c : Thread nD τ).loc main_arg1)
      ∧ V m c main_v2 = m ((c : Thread nD τ).loc main_arg2)
      ∧ V m c main_v3 = shapeCast S1x512 (m ((c : Thread nD τ).loc main_arg3)) shapeCasts_S512_S1x512
      ∧ V m c main_v4 = m ((c : Thread nD τ).loc main_arg4)
      ∧ V m c main_v5 = shapeCast S1x512 (m ((c : Thread nD τ).loc main_arg5)) shapeCasts_S512_S1x512
      ∧ V m c main_v6 = m ((c : Thread nD τ).loc main_arg6)
      ∧ V m c main_v7 = shapeCast S1x512 (m ((c : Thread nD τ).loc main_arg7)) shapeCasts_S512_S1x512
      ∧ V m c main_v8 = shapeCast S1x1 (m ((c : Thread nD τ).loc main_arg8)) shapeCasts_S1_S1x1
      ∧ V m c main_v9 = shapeCast S1x512 (m ((c : Thread nD τ).loc main_arg9)) shapeCasts_S512_S1x512
      ∧ V m c main_v10 = shapeCast S1x512 (m ((c : Thread nD τ).loc main_arg10)) shapeCasts_S512_S1x512
      ∧ V m c main_v11 = m ((c : Thread nD τ).loc main_arg11)
      ∧ V m c main_v12 = shapeCast S1x512 (m ((c : Thread nD τ).loc main_arg12)) shapeCasts_S512_S1x512 := by
  have e : (List.flatten [hostOps0] : List (HloOp τ sig (Elt Ideal))) = hostOps0 := rfl
  refine ⟨?_, ?_, ?_, ?_, ?_, ?_, ?_, ?_, ?_, ?_, ?_, ?_, ?_⟩ <;>
    (unfold_abbrev_sides; rw [e]; unfold hostOps0; after_results; rfl)

/-- The weights the body is handed at any point are the argument arrays. -/
theorem weights_eq (c : Dev nD) (t : Fin cfg0.N) :
    weights (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t)
      = argWeights m c := by
  obtain ⟨h1, h2, h3, h4, h5, h6, h7, h8, h9, h10, h11, h12⟩ := iblk_whole m c t
  obtain ⟨-, a1, a2, a3, a4, a5, a6, a7, a8, a9, a10, a11, a12⟩ := V_args m c
  rw [h1, h2, h3, h4, h5, h6, h7, h8, h9, h10, h11, h12, a1, a2, a3, a4, a5, a6, a7, a8, a9, a10, a11, a12]
  exact weights_ofArgs ..

/-- Row `R` of the flattened token rows is token `R % 8192` of sequence `R / 8192`. -/
theorem V0_apply (c : Dev nD) (b : Fin 8) (s : Fin 8192) (k : Fin 512) (R : Fin 65536) (hR : R.val = 8192 * b.val + s.val) :
    V m c main_v0 (ix2 R k) = m ((c : Thread nD τ).loc main_arg0) (ix3 b s k) := by
  rw [(V_args m c).1]
  exact flat_apply _ b s k R hR

end Cert.KernelIdeal.Arrays

end
-- ==== Proof.KernelArray.lean ====
/-
  The kernel's run: what each grid point writes back is its block of 512 rows of one whole array, the layer over the
  flattened token rows; the 128 blocks tile that array; the reshape after the region puts the rows back into sequences.
-/
module

public import proofs.«01_k».proof.Proof.Gen.KernelIdeal.Frame
public import proofs.«01_k».proof.Proof.KernelWindows
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Block Cert.Slots

variable (m : (ℓ : Loc nD τ sig) → Buf (Elt Ideal) ℓ) (ρ : Dev nD → PrngReg)

theorem hz : (![0, 0] : Fin 2 → Nat) = fun _ => 0 := funext fun a => by fin_cases a <;> rfl

/-- What the body leaves in the result's buffer at point `t`: the stored value of the thirteen blocks. -/
theorem outsAt_eq (c : Dev nD) (t : Fin cfg0.N) :
    outsAt0 m c t = stored (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) := by
  unfold outsAt0 out0_A_13
  rw [View.read_writes_eq_canon _ _ _ (cover0_A_13 c _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    (hs0_8 t).read_unread, (hs0_9 t).read_unread, (hs0_10 t).read_unread, (hs0_11 t).read_unread, (hs0_12 t).read_unread]
  rw [View.canon_unit_zero hz]
  simp only [View.ld_unit_zero (S := S512x512) hz, View.ld_unit_zero (S := S64x512) hz,
    View.ld_unit_zero (S := S1x512) hz, View.ld_unit_zero (S := S1x1) hz]
  have e : ∀ i : S1x1.Idx, i = ix2 (0 : Fin 1) (0 : Fin 1) := fun i => by
    funext a; refine Fin.ext ?_
    match a with
    | ⟨0, _⟩ => exact Nat.lt_one_iff.mp (i 0).isLt
    | ⟨1, _⟩ => exact Nat.lt_one_iff.mp (i 1).isLt
  rw [e (Shape.Idx.first _)]
  rfl

/-- The layer over the flattened token rows, at row `R` and column `j`: what the region's result array is shown to hold. -/
def flatAt (c : Dev nD) (R : Fin 65536) (j : Fin 512) : EReal :=
  layer (argWeights m c) (m ((c : Thread nD τ).loc main_arg0))
    (ix3 (⟨R.val / 8192, by omega⟩ : Fin 8) (⟨R.val % 8192, by omega⟩ : Fin 8192) j)

/-- The same as an array. -/
def flat (c : Dev nD) : S65536x512.Idx → EReal := fun i => flatAt m c (i 0) (i 1)

/-- The stored value at row `r` of point `t` is the layer at row `512 t + r` of the flattened rows. -/
theorem stored_flat (c : Dev nD) (t : Fin cfg0.N) (r j : Fin 512) (h : 512 * t.val + r.val < 65536) :
    stored (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (ix2 r j)
      = flatAt m c ⟨512 * t.val + r.val, h⟩ j := by
  have hr : r = rowOf ⟨r.val / 64, by omega⟩ ⟨r.val % 64, by omega⟩ := Fin.ext (by show r.val = 64 * (r.val / 64) + r.val % 64; omega)
  have ht : t.val < 128 := t.isLt.trans_eq N_0
  have e := stored_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    ⟨r.val / 64, by omega⟩ ⟨r.val % 64, by omega⟩ j
  rw [← hr, weights_eq] at e
  rw [e]
  unfold flatAt layer
  refine congrArg₂ (fun X u => outRow (argWeights m c) X u j) (funext fun u => funext fun k => ?_) (Fin.ext ?_)
  · have hu : 512 * t.val + (rowOf ⟨r.val / 64, by omega⟩ u).val < 65536 := by
      show 512 * t.val + (64 * (r.val / 64) + u.val) < 65536; omega
    refine (iblk0_apply m c t _ k hu).trans (V0_apply m c _ _ k _ ?_)
    show 512 * t.val + (64 * (r.val / 64) + u.val)
      = 8192 * ((512 * t.val + r.val) / 8192) + (64 * ((512 * t.val + r.val) % 8192 / 64) + u.val)
    omega
  · show r.val % 64 = (512 * t.val + r.val) % 8192 % 64
    omega

/-- The result's window, like the rows' window, moves by a block of 512 rows a point. -/
theorem index13 : ∀ t : Fin grid0.N, win0_13.index t = ![t.val, 0] := by decide +kernel

/-- What point `t` writes back is block `t` of the layer over the flattened rows. -/
theorem flushed_eq (c : Dev nD) (t : Fin cfg0.N) :
    (dats m 0 c).flushed 13 t = (win0_13.blk t).view.read (Elt Ideal) (flat m c) := by
  show (cfg0.win 13).cut (grid0.coords t) ((dats m 0 c).after 13 t) = _
  rw [after0_13, outsAt_eq]
  have ht : t.val < 128 := t.isLt.trans_eq N_0
  have e := index13 t
  have key : ∀ r j : Fin 512, stored (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t)
      (iblk m c 12 t) (ix2 r j) = flat m c ((win0_13.blk t).view.emb (ix2 r j)) := fun r j => by
    rw [stored_flat m c t r j (by omega)]
    refine congrArg₂ (flatAt m c) (Fin.ext ?_) (Fin.ext ?_)
    · show 512 * t.val + r.val = win0_13.index t 0 * 512 + 1 * r.val
      rw [e]; show _ = t.val * 512 + 1 * r.val; omega
    · show j.val = win0_13.index t 1 * 512 + 1 * j.val
      rw [e]; show _ = 0 * 512 + 1 * j.val; omega
  funext i
  have hi : i = ix2 (i 0) (i 1) := by
    funext a
    match a with
    | ⟨0, _⟩ => rfl
    | ⟨1, _⟩ => rfl
  rw [hi]
  exact key (i 0) (i 1)

/-- Row `R` is in point `t`'s block when it is one of the rows `512 t … 512 t + 511`. -/
theorem mem_blk (t : Fin cfg0.N) (i : S65536x512.Idx) :
    i ∈ ((cfg0.win 13).blk t).view.set ↔ t.val * 512 ≤ (i 0 : Nat) ∧ (i 0 : Nat) < t.val * 512 + 512 := by
  show i ∈ ((View.whole main_v13).slice (win0_13.rect t)).set ↔ _
  rw [View.set_slice_whole, Rect.mem_set_unit]
  have h1 : (i 1 : Nat) < 512 := (i 1).isLt
  have e := index13 t
  have e0 : win0_13.index t 0 = t.val := congrFun e 0
  have e1 : win0_13.index t 1 = 0 := congrFun e 1
  refine ⟨fun h => ?_, fun h a => ?_⟩
  · have : win0_13.index t 0 * 512 ≤ (i 0 : Nat) ∧ (i 0 : Nat) < win0_13.index t 0 * 512 + 512 := h 0
    rw [e0] at this; exact this
  · match a with
    | ⟨0, _⟩ => show win0_13.index t 0 * 512 ≤ (i 0 : Nat) ∧ (i 0 : Nat) < win0_13.index t 0 * 512 + 512
                rw [e0]; exact h
    | ⟨1, _⟩ => show win0_13.index t 1 * 512 ≤ (i 1 : Nat) ∧ (i 1 : Nat) < win0_13.index t 1 * 512 + 512
                rw [e1, Nat.zero_mul, Nat.zero_add]; exact ⟨Nat.zero_le _, h1⟩

/-- The blocks tile the result array. -/
theorem cover (i : S65536x512.Idx) :
    ∃ t : Fin cfg0.N, (cfg0.win 13).flush t = true ∧ i ∈ ((cfg0.win 13).blk t).view.set := by
  have h0 : (i 0 : Nat) < 65536 := (i 0).isLt
  have hN : cfg0.N = 128 := N_0
  refine ⟨⟨(i 0 : Nat) / 512, by omega⟩, flush0_13 _, ?_⟩
  rw [mem_blk]
  dsimp only
  omega

/-- So the region's result array ends holding the layer over the flattened rows. -/
theorem final_flat (c : Dev nD) : (dats m 0 c).arrAt 13 cfg0.N = flat m c :=
  (dats m 0 c).arrAt_eq_of_cover 13 (flat m c) (fun t _ => flushed_eq m c t) cover

/-- The reshape after the region reads the rows back as sequences: the layer of the batch. -/
theorem result_eq (c : Dev nD) :
    Pipeline.afterTail₀ cfgs (dats m) 0 (V0 m) [hostOps1] c main_v14
      = layer (argWeights m c) (m ((c : Thread nD τ).loc main_arg0)) := by
  have e : (List.flatten [hostOps1] : List (HloOp τ sig (Elt Ideal))) = hostOps1 := rfl
  have hw := Pipeline.withArrays_arr_shared spec0 c (V0 m c) (fun w => (dats m 0 c).arrAt w cfg0.N)
    (fun w w' hne h => absurd h (by revert w w'; decide)) 13
  unfold Pipeline.afterTail₀
  rw [e]; unfold hostOps1; after_results
  refine (congrArg (fun y => shapeCast S8x8192x512 y shapeCasts_S65536x512_S8x8192x512) (hw.trans (final_flat m c))).trans ?_
  funext i
  idx_vars i
  have hR : 8192 * i0.val + i1.val < 65536 := by omega
  rw [unflat_apply (flat m c) i0 i1 i2 ⟨8192 * i0.val + i1.val, hR⟩ rfl]
  show flatAt m c _ _ = _
  unfold flatAt
  refine congrArg (layer (argWeights m c) (m ((c : Thread nD τ).loc main_arg0))) (congrArg₂ (fun b s => ix3 b s i2) (Fin.ext ?_) (Fin.ext ?_))
  · show (8192 * i0.val + i1.val) / 8192 = i0.val
    omega
  · show (8192 * i0.val + i1.val) % 8192 = i1.val
    omega

/-- The run: the result is the layer of the batch. -/
theorem run : θ_run defs (onTc (τ := τ) (main (F := Ideal))) ⟨m, fun _ => 0, ρ⟩ fun r => ∀ c : Dev nD,
    r.2.mem ((c : Thread nD τ).loc main_v14) = layer (argWeights m c) (m ((c : Thread nD τ).loc main_arg0)) :=
  (θ_run defs _ _).mono (fun _ h c => ((h c).2 main_v14 (Pipeline.mem_restRefs_of main_v14 (by decide) (by decide))).trans
    (result_eq m c)) (run_main m ρ)

end Cert.KernelIdeal.Arrays

end
-- ==== Proof.RefValue.lean ====
/-
  The reference's attention, read: what each token gathers from its chunk of 64 tokens.
-/
module

public import proofs.«01_k».proof.Proof.Gen.ReferenceIdeal.Run
public import proofs.«01_k».proof.Proof.Gen.ReferenceIdeal.Read
public import proofs.«01_k».proof.Proof.Spec
public import Idealize.ShloMosaic.Lib.Pipeline.Value

@[expose] public section

set_option maxRecDepth 16384

noncomputable section

open Idealize.ShloMosaic Idealize.ShloMosaic.TcCoe

namespace Cert.ReferenceIdeal.Rows

open Cert.ReferenceIdeal Cert.ReferenceIdeal.Gen Cert.ReferenceIdeal.Read Cert.Slots

/-- Token `t` of chunk `n` of a sequence. -/
def tokOf (n : Fin 128) (t : Fin 64) : Fin 8192 := ⟨n * 64 + t, by omega⟩

variable (x0 : FVec Ideal S8x8192x512 .f32) (x1 : FVec Ideal S64x512 .f32) (W : FVec Ideal S512x512 .f32)
  (b : FVec Ideal S512 .f32) (x8 : FVec Ideal S1 .f32)

/-- The row of token `t` of chunk `n` of sequence `s`. -/
abbrev rowAt (s : Fin 8) (n : Fin 128) (t : Fin 64) : Fin 512 → EReal := fun k => x0 (ix3 s (tokOf n t) k)

/-- A projection, split into chunks. -/
theorem proj_apply (s : Fin 8) (n : Fin 128) (t : Fin 64) (j : Fin 512) :
    val_main_v4 (F := Ideal) x0 W b (ix4 s n t j)
      = proj (fun k j => W (ix2 k j)) (fun j => b (ix1 j)) (rowAt x0 s n t) j := by
  pointwise [val_main_v4, val_main_v3, val_main_v2, val_main_v1, val_main_v0]
  rfl

/-- The slot scores of a token's projected row. -/
abbrev logits (s : Fin 8) (n : Fin 128) (t : Fin 64) : Fin 64 → EReal :=
  logit (fun a d => x1 (ix2 a d)) (x8 (ix1 (0 : Fin 1)))
    (proj (fun k j => W (ix2 k j)) (fun j => b (ix1 j)) (rowAt x0 s n t))

theorem logit_apply (s : Fin 8) (n : Fin 128) (t a : Fin 64) :
    val_main_v18 (F := Ideal) x0 x1 W b x8 (ix4 s n t a) = logits x0 x1 W b x8 s n t a := by
  pointwise [val_main_v18, val_main_v17, val_main_v16, val_main_v15, proj_apply]
  rfl

/-- The host's maximum over the last axis, from −∞. -/
theorem hostTop_apply (y : FVec Ideal S8x128x64x64 .f32) (s : Fin 8) (n : Fin 128) (t : Fin 64) :
    Host.reduce FloatOps.maximumf y (val_main_cst (F := Ideal)) reducesTo_S8x128x64x64_S8x128x64_d3 h_S_ (ix3 s n t)
      = top (fun a => y (ix4 s n t a)) := by
  unfold top
  pointwise [val_main_cst]
  rw [bits_bot]

/-- The largest score: the fold from −∞, then the maximum with −∞, which changes nothing. -/
theorem top_apply (s : Fin 8) (n : Fin 128) (t : Fin 64) :
    val_main_v21 (F := Ideal) x0 x1 W b x8 (ix3 s n t) = top (logits x0 x1 W b x8 s n t) := by
  have e : val_main_v19 (F := Ideal) x0 x1 W b x8 (ix3 s n t) = top (logits x0 x1 W b x8 s n t) :=
    (hostTop_apply (val_main_v18 (F := Ideal) x0 x1 W b x8) s n t).trans
      (congrArg top (funext fun a => logit_apply x0 x1 W b x8 s n t a))
  rw [val_main_v21_apply, e, val_main_v20_apply]
  show max (Ideal.ofBits .f32 0xFF800000#32) _ = _
  rw [bits_bot]
  exact max_eq_right bot_le

theorem expo_apply (s : Fin 8) (n : Fin 128) (t a : Fin 64) :
    val_main_v25 (F := Ideal) x0 x1 W b x8 (ix4 s n t a) = expo (logits x0 x1 W b x8 s n t) a := by
  pointwise [val_main_v25, val_main_v24, val_main_v23, val_main_v22, top_apply, logit_apply]
  rfl

theorem soft_apply (s : Fin 8) (n : Fin 128) (t a : Fin 64) :
    val_main_v29 (F := Ideal) x0 x1 W b x8 (ix4 s n t a) = soft (logits x0 x1 W b x8 s n t) a := by
  pointwise [val_main_v29, val_main_v28, val_main_v27, val_main_v26, val_main_cst_1, expo_apply]
  rfl

/-- The words of the mask's comparison. -/
theorem mask_word : ∀ t u : Fin 64, IntOp.cmpi .sge (IntOp.addi (BitVec.ofNat 32 t) 0#32) (BitVec.ofNat 32 u)
    = if u ≤ t then 1#1 else 0#1 := by decide +kernel

/-- The mask of a chunk: 1 at the tokens up to `t`, 0 after. -/
theorem mask_apply (s : Fin 8) (n : Fin 128) (t u : Fin 64) :
    val_main_v49 (F := Ideal) (ix4 s n t u) = if u ≤ t then 1 else 0 := by
  pointwise [val_main_v49, val_main_v48, val_main_v47, val_main_v46, val_main_cst_5, val_main_call0_v0, val_main_call0_c,
    val_main_call0_v1, val_main_call0_v2, val_main_call0_v3, val_main_call0_v4, val_main_call0_cst, val_main_call0_v5]
  rw [mask_word]
  by_cases h : u ≤ t <;> simp [h, Scalar.select]

variable (Wk : FVec Ideal S512x512 .f32) (bk : FVec Ideal S512 .f32) (Wq : FVec Ideal S512x512 .f32)
  (bq : FVec Ideal S512 .f32) (Wv : FVec Ideal S512x512 .f32) (bv g h : FVec Ideal S512 .f32)
  (Wo : FVec Ideal S512x512 .f32) (bo : FVec Ideal S512 .f32)

/-- The readers' softmax and the values are the same operations on other weights. -/
theorem reads_apply (s : Fin 8) (n : Fin 128) (t a : Fin 64) :
    val_main_v44 (F := Ideal) x0 x1 W b x8 (ix4 s n t a) = soft (logits x0 x1 W b x8 s n t) a :=
  soft_apply x0 x1 W b x8 s n t a
theorem values_apply (s : Fin 8) (n : Fin 128) (t : Fin 64) (j : Fin 512) :
    val_main_v14 (F := Ideal) x0 W b (ix4 s n t j)
      = proj (fun k j => W (ix2 k j)) (fun j => b (ix1 j)) (rowAt x0 s n t) j := proj_apply x0 W b s n t j

/-- The masked scores within a chunk. -/
theorem score_apply (s : Fin 8) (n : Fin 128) (t u : Fin 64) :
    val_main_v50 (F := Ideal) x0 x1 Wk bk Wq bq x8 (ix4 s n t u)
      = score (ofArgs x1 Wk bk Wq bq Wv bv x8 g h Wo bo) (rowAt x0 s n t) (rowAt x0 s n u) * if u ≤ t then 1 else 0 := by
  pointwise [val_main_v50, val_main_v45, reads_apply, soft_apply, mask_apply]
  rfl

/-- What each token gathers from its chunk. -/
theorem gather_apply (s : Fin 8) (T : Fin 8192) (d : Fin 512) :
    val_main_v52 (F := Ideal) x0 x1 Wk bk Wq bq Wv bv x8 (ix3 s T d)
      = gather (ofArgs x1 Wk bk Wq bq Wv bv x8 g h Wo bo) (fun u k => x0 (ix3 s (tok T u) k)) (pos T) d := by
  pointwise [val_main_v52, val_main_v51, values_apply, score_apply x0 x1 x8 Wk bk Wq bq Wv bv g h Wo bo]
  have er : (fun u k => x0 (ix3 s (tok T u) k)) = rowAt x0 s (⟨T.val / 64, by omega⟩ : Fin 128) :=
    funext fun u => funext fun k => congrArg (fun v => x0 (ix3 s v k))
      (Fin.ext (by show 64 * (T.val / 64) + u.val = T.val / 64 * 64 + u.val; omega))
  rw [er]
  rfl

end Cert.ReferenceIdeal.Rows

end
-- ==== Proof.RefNorm.lean ====
/-
  The reference's result, read: the gathered rows normalized, scaled, shifted, projected and added to the tokens' own are
  the layer's rows.
-/
module

public import proofs.«01_k».proof.Proof.Gen.ReferenceIdeal.Run
public import proofs.«01_k».proof.Proof.Gen.ReferenceIdeal.Read
public import proofs.«01_k».proof.Proof.RefValue
public import Idealize.ShloMosaic.Lib.Pipeline.Value

@[expose] public section

set_option maxRecDepth 16384

noncomputable section

open Idealize.ShloMosaic Idealize.ShloMosaic.TcCoe

namespace Cert.ReferenceIdeal.Rows

open Cert.ReferenceIdeal Cert.ReferenceIdeal.Gen Cert.ReferenceIdeal.Read Cert.Slots

variable (x0 : FVec Ideal S8x8192x512 .f32) (x1 : FVec Ideal S64x512 .f32) (Wk : FVec Ideal S512x512 .f32)
  (bk : FVec Ideal S512 .f32) (Wq : FVec Ideal S512x512 .f32) (bq : FVec Ideal S512 .f32) (Wv : FVec Ideal S512x512 .f32)
  (bv : FVec Ideal S512 .f32) (x8 : FVec Ideal S1 .f32) (g h : FVec Ideal S512 .f32) (Wo : FVec Ideal S512x512 .f32)
  (bo : FVec Ideal S512 .f32)

/-- A sum over the last axis, a product with a square weight array, and a column repeated along the rows, read at an index
    of any array. -/
theorem sum_apply (y : FVec Ideal S8x8192x512 .f32) (s : Fin 8) (T : Fin 8192) :
    Host.reduceAdd y (val_main_call1_cst_2 (F := Ideal)) reducesTo_S8x8192x512_S8x8192_d2 h_S_ (ix2 s T)
      = ∑ k : Fin 512, y (ix3 s T k) := by
  pointwise [val_main_call1_cst_2]

theorem dot_apply (y : FVec Ideal S8x8192x512 .f32) (W : FVec Ideal S512x512 .f32) (s : Fin 8) (T : Fin 8192) (j : Fin 512) :
    Host.dotGeneral dot_S8x8192x512_S512x512_S8x8192x512_2_0_01_1_n_n none y W (ix3 s T j)
      = ∑ k : Fin 512, y (ix3 s T k) * W (ix2 k j) := by
  pointwise []

theorem spread_apply (y : FVec Ideal S8x8192x1 .f32) (s : Fin 8) (T : Fin 8192) (j : Fin 512) :
    broadcastInDim S8x8192x512 ![0, 1, 2] bcast_S8x8192x1_S8x8192x512_0_1_2 y (ix3 s T j) = y (ix3 s T (0 : Fin 1)) := by
  pointwise []

/-- A vector repeated along every token. -/
theorem repeat_apply (v : FVec Ideal S512 .f32) (s : Fin 8) (T : Fin 8192) (j : Fin 512) :
    val_main_v66 (F := Ideal) v (ix3 s T j) = v (ix1 j) := by
  pointwise [val_main_v66, val_main_v65]

/-- Each stage below is read for any gathered row: `r` is what the row `(s, T)` of the gathered array holds. -/
theorem mean_apply (s : Fin 8) (T : Fin 8192) (z : Fin 1) (r : Fin 512 → EReal)
    (hr : ∀ d, val_main_v52 (F := Ideal) x0 x1 Wk bk Wq bq Wv bv x8 (ix3 s T d) = r d) :
    val_main_v56 (F := Ideal) x0 x1 Wk bk Wq bq Wv bv x8 (ix3 s T z) = mean r := by
  unfold val_main_v56 val_main_v54 val_main_v53 mean
  revert hr
  generalize val_main_v52 (F := Ideal) x0 x1 Wk bk Wq bq Wv bv x8 = y
  intro hr
  pointwise [val_main_v55, val_main_cst_6, val_main_cst_7, hr]

/-- The divisor of the variance is 512 less the integer 0, and it is positive. -/
theorem width_apply (i : S_.Idx) : val_main_call1_v8 (F := Ideal) i = Ideal.ofBits .f32 0x44000000#32 := by
  rw [val_main_call1_v8_apply, val_main_call1_v7_apply, val_main_c_apply, val_main_call1_cst_1_apply]
  show Ideal.ofBits .f32 0x44000000#32 - ((((0#32 : BitVec 32).toInt : ℝ) : EReal)) = _
  simp

theorem positive_apply (i : S_.Idx) : val_main_call1_v13 (F := Ideal) i = 1#1 := by
  rw [val_main_call1_v13_apply, width_apply, val_main_call1_cst_3_apply]
  pointwise [bits_width]
  have e : (0 : EReal) < ((512 : ℝ) : EReal) := EReal.coe_pos.mpr (by norm_num)
  simp [e]

theorem variance_apply (s : Fin 8) (T : Fin 8192) (z : Fin 1) (r : Fin 512 → EReal)
    (hr : ∀ d, val_main_v52 (F := Ideal) x0 x1 Wk bk Wq bq Wv bv x8 (ix3 s T d) = r d) :
    val_main_v57 (F := Ideal) x0 x1 Wk bk Wq bq Wv bv x8 (ix3 s T z)
      = mean (fun j => (r j - mean r) * (r j - mean r)) := by
  have hm : val_main_call1_v3 (F := Ideal) x0 x1 Wk bk Wq bq Wv bv x8 (ix3 s T (0 : Fin 1)) = mean r :=
    mean_apply x0 x1 Wk bk Wq bq Wv bv x8 s T 0 r hr
  have hc : ∀ d, val_main_call1_v5 (F := Ideal) x0 x1 Wk bk Wq bq Wv bv x8 (ix3 s T d) = r d - mean r := fun d => by
    have hs : val_main_call1_v4 (F := Ideal) x0 x1 Wk bk Wq bq Wv bv x8 (ix3 s T d) = mean r :=
      (spread_apply (val_main_call1_v3 (F := Ideal) x0 x1 Wk bk Wq bq Wv bv x8) s T d).trans hm
    rw [val_main_call1_v5_apply, hr, hs]
    rfl
  have hq : ∀ d, val_main_call1_v6 (F := Ideal) x0 x1 Wk bk Wq bq Wv bv x8 (ix3 s T d)
      = (r d - mean r) * (r d - mean r) := fun d => by
    rw [val_main_call1_v6_apply, hc]
    rfl
  have h9 : val_main_call1_v9 (F := Ideal) x0 x1 Wk bk Wq bq Wv bv x8 (ix2 s T)
      = ∑ d, (r d - mean r) * (r d - mean r) :=
    (sum_apply (val_main_call1_v6 (F := Ideal) x0 x1 Wk bk Wq bq Wv bv x8) s T).trans
      (Finset.sum_congr rfl fun d _ => hq d)
  unfold val_main_v57 val_main_call1_v12 val_main_call1_v10 mean
  revert h9
  generalize val_main_call1_v9 (F := Ideal) x0 x1 Wk bk Wq bq Wv bv x8 = y
  intro h9
  pointwise [positive_apply, val_main_call1_v11, width_apply, h9]
  rfl

theorem normed_apply (s : Fin 8) (T : Fin 8192) (d : Fin 512) (r : Fin 512 → EReal)
    (hr : ∀ d, val_main_v52 (F := Ideal) x0 x1 Wk bk Wq bq Wv bv x8 (ix3 s T d) = r d) :
    val_main_v64 (F := Ideal) x0 x1 Wk bk Wq bq Wv bv x8 (ix3 s T d) = normed r d := by
  have hm : val_main_v58 (F := Ideal) x0 x1 Wk bk Wq bq Wv bv x8 (ix3 s T d) = mean r :=
    (spread_apply (val_main_v56 (F := Ideal) x0 x1 Wk bk Wq bq Wv bv x8) s T d).trans
      (mean_apply x0 x1 Wk bk Wq bq Wv bv x8 s T 0 r hr)
  have hv : val_main_v63 (F := Ideal) x0 x1 Wk bk Wq bq Wv bv x8 (ix3 s T d)
      = Ideal.rsqrt (mean (fun j => (r j - mean r) * (r j - mean r)) + Ideal.ofBits .f32 0x3727C5AC#32) := by
    refine (spread_apply (val_main_v62 (F := Ideal) x0 x1 Wk bk Wq bq Wv bv x8) s T d).trans ?_
    rw [val_main_v62_apply, val_main_v61_apply, variance_apply x0 x1 Wk bk Wq bq Wv bv x8 s T 0 r hr, val_main_v60_apply,
      val_main_cst_8_apply]
    rfl
  rw [val_main_v64_apply, val_main_v59_apply, hr, hm, hv]
  rfl

/-- The result at token `T` of sequence `s`, from the normalized row `n`. -/
theorem update_apply (s : Fin 8) (T : Fin 8192) (j : Fin 512) (n : Fin 512 → EReal)
    (hn : ∀ d, val_main_v64 (F := Ideal) x0 x1 Wk bk Wq bq Wv bv x8 (ix3 s T d) = n d) :
    val_main_v75 (F := Ideal) x0 x1 Wk bk Wq bq Wv bv x8 g h Wo bo (ix3 s T j)
      = x0 (ix3 s T j) + proj (fun k j => Wo (ix2 k j)) (fun j => bo (ix1 j)) (fun d => n d * g (ix1 d) + h (ix1 d)) j := by
  have hh : ∀ d, val_main_v69 (F := Ideal) h (ix3 s T d) = h (ix1 d) := fun d => repeat_apply h s T d
  have hb : val_main_v73 (F := Ideal) bo (ix3 s T j) = bo (ix1 j) := repeat_apply bo s T j
  have ha : ∀ d, val_main_v70 (F := Ideal) x0 x1 Wk bk Wq bq Wv bv x8 g h (ix3 s T d) = n d * g (ix1 d) + h (ix1 d) :=
    fun d => by
      rw [val_main_v70_apply, val_main_v67_apply, hn, repeat_apply, hh]
      rfl
  have hd : val_main_v71 (F := Ideal) x0 x1 Wk bk Wq bq Wv bv x8 g h Wo (ix3 s T j)
      = ∑ d, (n d * g (ix1 d) + h (ix1 d)) * Wo (ix2 d j) :=
    (dot_apply (val_main_v70 (F := Ideal) x0 x1 Wk bk Wq bq Wv bv x8 g h) Wo s T j).trans
      (Finset.sum_congr rfl fun d _ => congrArg (· * Wo (ix2 d j)) (ha d))
  rw [val_main_v75_apply, val_main_v74_apply, hd, hb]
  rfl

/-- The reference's result is the layer of its arguments. -/
theorem result_eq :
    val_main_v75 (F := Ideal) x0 x1 Wk bk Wq bq Wv bv x8 g h Wo bo
      = layer (ofArgs x1 Wk bk Wq bq Wv bv x8 g h Wo bo) x0 := by
  funext i
  idx_vars i
  have hn := fun d => normed_apply x0 x1 Wk bk Wq bq Wv bv x8 i0 i1 d _
    (fun d => gather_apply x0 x1 x8 Wk bk Wq bq Wv bv g h Wo bo i0 i1 d)
  rw [update_apply x0 x1 Wk bk Wq bq Wv bv x8 g h Wo bo i0 i1 i2 _ hn]
  unfold layer outRow update
  refine congrArg₂ (· + ·) (congrArg (fun T => x0 (ix3 i0 T i2)) (Fin.ext ?_)) rfl
  show i1.val = 64 * (i1.val / 64) + i1.val % 64
  omega

end Cert.ReferenceIdeal.Rows

end
-- ==== Proof.lean ====
/-
  The proof of the certificate's claim. The kernel's run ends with the layer of its arguments, and so does the
  reference's; where the arguments agree the two results are therefore equal. The frames come with the two runs.
-/
module

public import proofs.«01_k».proof.Proof.KernelArray
public import proofs.«01_k».proof.Proof.RefNorm
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Slots

/-- The reference is a host program: its run leaves the arguments, and it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Both results are the layer of the arguments. -/
theorem algebraic : Cert.algebraic_KernelIdeal_ReferenceIdeal := by
  intro m ρ m' ρ' _ hagree
  refine ⟨fun c => layer (Cert.KernelIdeal.Arrays.argWeights m c)
    (m ((c.tc : Thread Cert.KernelIdeal.nD Cert.KernelIdeal.τ).loc Cert.KernelIdeal.main_arg0)), ?_, ?_⟩
  · exact (θ_run Cert.KernelIdeal.defs _ _).mono (fun _ h c => ⟨h.1 c, h.2 c⟩)
      (θ_run_and (Cert.KernelIdeal.Arrays.run m ρ) (Cert.KernelIdeal.Gen.unchanged m ρ))
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v75_eq, h0, h1, h2, h3, h4, h5, h6, h7, h8, h9, h10, h11, h12]
    exact Cert.ReferenceIdeal.Rows.result_eq ..

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
